-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_t_in_range [hPre_t_in_range : Cert.Pre_t_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_t_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_t_in_range [hPre_t_in_range : Cert.Pre_t_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_t_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_t_in_range [hKernelIdeal : Cert.KernelIdeal.Facts] [hPre_t_in_range : Cert.Pre_t_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_t_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_t_in_range [hReferenceIdeal : Cert.ReferenceIdeal.Facts] [hPre_t_in_range : Cert.Pre_t_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_t_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_t_in_range [hKernelIdeal : Cert.KernelIdeal.Facts] [hReferenceIdeal : Cert.ReferenceIdeal.Facts] [hPre_t_in_range : Cert.Pre_t_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_t_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_t_in_range : Cert.Pre_t_in_range.Facts),
    quiescent_Kernel (hKernel := hKernel)
    ∧ quiescent_KernelIdeal (hKernelIdeal := hKernelIdeal)
    ∧ quiescent_KernelIdeal_pre_t_in_range (hKernelIdeal := hKernelIdeal) (hPre_t_in_range := hPre_t_in_range)
    ∧ quiescent_ReferenceIdeal (hReferenceIdeal := hReferenceIdeal)
    ∧ quiescent_ReferenceIdeal_pre_t_in_range (hReferenceIdeal := hReferenceIdeal) (hPre_t_in_range := hPre_t_in_range)
    ∧ preserves_Kernel_KernelIdeal
    ∧ algebraic_KernelIdeal_ReferenceIdeal_pre_t_in_range (hKernelIdeal := hKernelIdeal) (hReferenceIdeal := hReferenceIdeal) (hPre_t_in_range := hPre_t_in_range)
-- ==== Pre_t_in_range.lean ====
abbrev S64x3x2048 : Shape := ⟨3, ![64, 3, 2048]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64x3x2048 .f32) (main_arg1 : IVec S64 32) (main_arg2 : FVec F S64x3x2048 .f32) (main_arg3 : FVec F S64x3x2048 .f32) : IVec S_ 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 1000#32
  let main_v2 : IVec S64 32 := broadcastInDim S64 ![] bcast_S_S64 main_c_0
  let main_v3 : IVec S64 1 := cmpi .slt main_arg1 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  main_v5
-- ==== Kernel.lean ====
abbrev S64x3x2048 : Shape := ⟨3, ![64, 3, 2048]⟩
abbrev S64 : Shape := ⟨1, ![64]⟩
abbrev S1000 : Shape := ⟨1, ![1000]⟩
abbrev S3x64x2048 : Shape := ⟨3, ![3, 64, 2048]⟩
abbrev S1x64 : Shape := ⟨2, ![1, 64]⟩
abbrev S_ : Shape := ⟨0, ![]⟩
abbrev S1000x1 : Shape := ⟨2, ![1000, 1]⟩
abbrev S1000x8 : Shape := ⟨2, ![1000, 8]⟩
abbrev S3x32x2048 : Shape := ⟨3, ![3, 32, 2048]⟩
abbrev S64x8 : Shape := ⟨2, ![64, 8]⟩
abbrev S1000x64 : Shape := ⟨2, ![1000, 64]⟩
abbrev S32x8 : Shape := ⟨2, ![32, 8]⟩
abbrev S32x1 : Shape := ⟨2, ![32, 1]⟩
abbrev S1x32x1 : Shape := ⟨3, ![1, 32, 1]⟩

abbrev nBuf : Space → Nat
  | .hbm => 40
  | .vmem => 13
  | .smem => 0
  | _ => 0

abbrev bufTy : (tb : Table) → Fin (tcTables nBuf tb) → BufTy
  | .hbm, ⟨0, _⟩ => ⟨S64x3x2048, .f32⟩
  | .hbm, ⟨1, _⟩ => ⟨S64, .i32⟩
  | .hbm, ⟨2, _⟩ => ⟨S64x3x2048, .f32⟩
  | .hbm, ⟨3, _⟩ => ⟨S64x3x2048, .f32⟩
  | .hbm, ⟨4, _⟩ => ⟨S1000, .f32⟩
  | .hbm, ⟨5, _⟩ => ⟨S1000, .f32⟩
  | .hbm, ⟨6, _⟩ => ⟨S1000, .f32⟩
  | .hbm, ⟨7, _⟩ => ⟨S1000, .f32⟩
  | .hbm, ⟨8, _⟩ => ⟨S1000, .f32⟩
  | .hbm, ⟨9, _⟩ => ⟨S3x64x2048, .f32⟩
  | .hbm, ⟨10, _⟩ => ⟨S3x64x2048, .f32⟩
  | .hbm, ⟨11, _⟩ => ⟨S3x64x2048, .f32⟩
  | .hbm, ⟨12, _⟩ => ⟨S1x64, .i32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S1000, .f32⟩
  | .hbm, ⟨17, _⟩ => ⟨S1000, .i32⟩
  | .hbm, ⟨18, _⟩ => ⟨S_, .i32⟩
  | .hbm, ⟨19, _⟩ => ⟨S1000, .i32⟩
  | .hbm, ⟨20, _⟩ => ⟨S1000, .i1⟩
  | .hbm, ⟨21, _⟩ => ⟨S_, .f32⟩
  | .hbm, ⟨22, _⟩ => ⟨S_, .f32⟩
  | .hbm, ⟨23, _⟩ => ⟨S1000, .f32⟩
  | .hbm, ⟨24, _⟩ => ⟨S1000, .f32⟩
  | .hbm, ⟨25, _⟩ => ⟨S_, .f32⟩
  | .hbm, ⟨26, _⟩ => ⟨S1000, .f32⟩
  | .hbm, ⟨27, _⟩ => ⟨S1000x1, .f32⟩
  | .hbm, ⟨28, _⟩ => ⟨S1000x1, .f32⟩
  | .hbm, ⟨29, _⟩ => ⟨S1000x1, .f32⟩
  | .hbm, ⟨30, _⟩ => ⟨S1000x1, .f32⟩
  | .hbm, ⟨31, _⟩ => ⟨S1000x1, .f32⟩
  | .hbm, ⟨32, _⟩ => ⟨S1000x1, .f32⟩
  | .hbm, ⟨33, _⟩ => ⟨S1000x1, .f32⟩
  | .hbm, ⟨34, _⟩ => ⟨S1000x1, .f32⟩
  | .hbm, ⟨35, _⟩ => ⟨S1000x8, .f32⟩
  | .hbm, ⟨36, _⟩ => ⟨S3x64x2048, .f32⟩
  | .hbm, ⟨37, _⟩ => ⟨S3x64x2048, .f32⟩
  | .hbm, ⟨38, _⟩ => ⟨S64x3x2048, .f32⟩
  | .hbm, ⟨39, _⟩ => ⟨S64x3x2048, .f32⟩
  | .local _ .vmem, ⟨0, _⟩ => ⟨S1x64, .i32⟩
  | .local _ .vmem, ⟨1, _⟩ => ⟨S1000x8, .f32⟩
  | .local _ .vmem, ⟨2, _⟩ => ⟨S3x32x2048, .f32⟩
  | .local _ .vmem, ⟨3, _⟩ => ⟨S3x32x2048, .f32⟩
  | .local _ .vmem, ⟨4, _⟩ => ⟨S3x32x2048, .f32⟩
  | .local _ .vmem, ⟨5, _⟩ => ⟨S3x32x2048, .f32⟩
  | .local _ .vmem, ⟨6, _⟩ => ⟨S3x32x2048, .f32⟩
  | .local _ .vmem, ⟨7, _⟩ => ⟨S3x32x2048, .f32⟩
  | .local _ .vmem, ⟨8, _⟩ => ⟨S3x32x2048, .f32⟩
  | .local _ .vmem, ⟨9, _⟩ => ⟨S3x32x2048, .f32⟩
  | .local _ .vmem, ⟨10, _⟩ => ⟨S3x32x2048, .f32⟩
  | .local _ .vmem, ⟨11, _⟩ => ⟨S3x32x2048, .f32⟩
  | .local _ .vmem, ⟨12, _⟩ => ⟨S64x8, .f32⟩
  | _, _ => ⟨S64x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_cst_5 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c32_i32 : BitVec 32 := 32#32
  let v3 : BitVec 32 := Scalar.muli arg0 c32_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S64x3x2048 : Shape := ⟨3, ![64, 3, 2048]⟩
abbrev S64 : Shape := ⟨1, ![64]⟩
abbrev S1000 : Shape := ⟨1, ![1000]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x1x1 : Shape := ⟨3, ![64, 1, 1]⟩

abbrev nBuf : Space → Nat
  | .hbm => 162
  | .vmem => 0
  | .smem => 0
  | _ => 0

abbrev hbmTy0_0 (i : Nat) : BufTy := match i % 128 with
  | 0 => ⟨S64x3x2048, .f32⟩
  | 1 => ⟨S64, .i32⟩
  | 2 => ⟨S64x3x2048, .f32⟩
  | 3 => ⟨S64x3x2048, .f32⟩
  | 4 => ⟨S1000, .f32⟩
  | 5 => ⟨S1000, .f32⟩
  | 6 => ⟨S1000, .f32⟩
  | 7 => ⟨S1000, .f32⟩
  | 8 => ⟨S1000, .f32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S64x1, .i32⟩
  | 17 => ⟨S1, .i32⟩
  | 18 => ⟨S_, .i32⟩
  | 19 => ⟨S64x1, .i32⟩
  | 20 => ⟨S64x1, .i1⟩
  | 21 => ⟨S1x1, .i32⟩
  | 22 => ⟨S64x1, .i32⟩
  | 23 => ⟨S64x1, .i1⟩
  | 24 => ⟨S64x1, .i1⟩
  | 25 => ⟨S_, .i1⟩
  | 26 => ⟨S64, .i1⟩
  | 27 => ⟨S64, .f32⟩
  | 28 => ⟨S_, .f32⟩
  | 29 => ⟨S64, .f32⟩
  | 30 => ⟨S64, .f32⟩
  | 31 => ⟨S64x1x1, .f32⟩
  | 32 => ⟨S_, .f32⟩
  | 33 => ⟨S64x3x2048, .f32⟩
  | 34 => ⟨S64x3x2048, .f32⟩
  | 35 => ⟨S64x3x2048, .f32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S64, .i32⟩
  | 43 => ⟨S64x1, .i32⟩
  | 44 => ⟨S1, .i32⟩
  | 45 => ⟨S_, .i32⟩
  | 46 => ⟨S64x1, .i32⟩
  | 47 => ⟨S64x1, .i1⟩
  | 48 => ⟨S1x1, .i32⟩
  | 49 => ⟨S64x1, .i32⟩
  | 50 => ⟨S64x1, .i1⟩
  | 51 => ⟨S64x1, .i1⟩
  | 52 => ⟨S_, .i1⟩
  | 53 => ⟨S64, .i1⟩
  | 54 => ⟨S64, .f32⟩
  | 55 => ⟨S_, .f32⟩
  | 56 => ⟨S64, .f32⟩
  | 57 => ⟨S64, .f32⟩
  | 58 => ⟨S64x1x1, .f32⟩
  | 59 => ⟨S64x3x2048, .f32⟩
  | 60 => ⟨S64x3x2048, .f32⟩
  | 61 => ⟨S_, .i32⟩
  | 62 => ⟨S64, .i32⟩
  | 63 => ⟨S64, .i1⟩
  | 64 => ⟨S_, .i32⟩
  | 65 => ⟨S64, .i32⟩
  | 66 => ⟨S64, .i32⟩
  | 67 => ⟨S64, .i32⟩
  | 68 => ⟨S64x1, .i32⟩
  | 69 => ⟨S1, .i32⟩
  | 70 => ⟨S_, .i32⟩
  | 71 => ⟨S64x1, .i32⟩
  | 72 => ⟨S64x1, .i1⟩
  | 73 => ⟨S1x1, .i32⟩
  | 74 => ⟨S64x1, .i32⟩
  | 75 => ⟨S64x1, .i1⟩
  | 76 => ⟨S64x1, .i1⟩
  | 77 => ⟨S_, .i1⟩
  | 78 => ⟨S64, .i1⟩
  | 79 => ⟨S64, .f32⟩
  | 80 => ⟨S_, .f32⟩
  | 81 => ⟨S64, .f32⟩
  | 82 => ⟨S64, .f32⟩
  | 83 => ⟨S64x1x1, .f32⟩
  | 84 => ⟨S64x3x2048, .f32⟩
  | 85 => ⟨S64x3x2048, .f32⟩
  | 86 => ⟨S64x3x2048, .f32⟩
  | 87 => ⟨S_, .f32⟩
  | 88 => ⟨S_, .f32⟩
  | 89 => ⟨S_, .f32⟩
  | 90 => ⟨S64x3x2048, .f32⟩
  | 91 => ⟨S64x3x2048, .f32⟩
  | 92 => ⟨S_, .f32⟩
  | 93 => ⟨S64x3x2048, .f32⟩
  | 94 => ⟨S64x3x2048, .f32⟩
  | 95 => ⟨S_, .i32⟩
  | 96 => ⟨S64, .i32⟩
  | 97 => ⟨S64, .i1⟩
  | 98 => ⟨S_, .i32⟩
  | 99 => ⟨S64, .i32⟩
  | 100 => ⟨S64, .i32⟩
  | 101 => ⟨S64, .i32⟩
  | 102 => ⟨S64x1, .i32⟩
  | 103 => ⟨S1, .i32⟩
  | 104 => ⟨S_, .i32⟩
  | 105 => ⟨S64x1, .i32⟩
  | 106 => ⟨S64x1, .i1⟩
  | 107 => ⟨S1x1, .i32⟩
  | 108 => ⟨S64x1, .i32⟩
  | 109 => ⟨S64x1, .i1⟩
  | 110 => ⟨S64x1, .i1⟩
  | 111 => ⟨S_, .i1⟩
  | 112 => ⟨S64, .i1⟩
  | 113 => ⟨S64, .f32⟩
  | 114 => ⟨S_, .f32⟩
  | 115 => ⟨S64, .f32⟩
  | 116 => ⟨S64, .f32⟩
  | 117 => ⟨S64x1x1, .f32⟩
  | 118 => ⟨S64x3x2048, .f32⟩
  | 119 => ⟨S64x3x2048, .f32⟩
  | 120 => ⟨S_, .i32⟩
  | 121 => ⟨S64, .i32⟩
  | 122 => ⟨S64, .i1⟩
  | 123 => ⟨S_, .i32⟩
  | 124 => ⟨S64, .i32⟩
  | 125 => ⟨S64, .i32⟩
  | 126 => ⟨S64, .i32⟩
  | 127 => ⟨S64x1, .i32⟩
  | _ => ⟨S64x3x2048, .f32⟩

abbrev hbmTy0_1 (i : Nat) : BufTy := match i % 128 with
  | 0 => ⟨S1, .i32⟩
  | 1 => ⟨S_, .i32⟩
  | 2 => ⟨S64x1, .i32⟩
  | 3 => ⟨S64x1, .i1⟩
  | 4 => ⟨S1x1, .i32⟩
  | 5 => ⟨S64x1, .i32⟩
  | 6 => ⟨S64x1, .i1⟩
  | 7 => ⟨S64x1, .i1⟩
  | 8 => ⟨S_, .i1⟩
  | 9 => ⟨S64, .i1⟩
  | 10 => ⟨S64, .f32⟩
  | 11 => ⟨S_, .f32⟩
  | 12 => ⟨S64, .f32⟩
  | 13 => ⟨S64, .f32⟩
  | 14 => ⟨S64x1x1, .f32⟩
  | 15 => ⟨S64x3x2048, .f32⟩
  | 16 => ⟨S64x3x2048, .f32⟩
  | 17 => ⟨S64x3x2048, .f32⟩
  | 18 => ⟨S_, .i32⟩
  | 19 => ⟨S64, .i32⟩
  | 20 => ⟨S64, .i1⟩
  | 21 => ⟨S64, .f32⟩
  | 22 => ⟨S_, .f32⟩
  | 23 => ⟨S64, .f32⟩
  | 24 => ⟨S64, .f32⟩
  | 25 => ⟨S64x1x1, .f32⟩
  | 26 => ⟨S_, .f32⟩
  | 27 => ⟨S64x3x2048, .f32⟩
  | 28 => ⟨S64x3x2048, .f32⟩
  | 29 => ⟨S64x3x2048, .f32⟩
  | 30 => ⟨S64x3x2048, .f32⟩
  | 31 => ⟨S64x3x2048, .f32⟩
  | 32 => ⟨S64x3x2048, .f32⟩
  | 33 => ⟨S64x3x2048, .f32⟩
  | _ => ⟨S64x3x2048, .f32⟩

abbrev hbmTy (i : Nat) : BufTy := match i / 128 with
  | 0 => hbmTy0_0 i
  | 1 => hbmTy0_1 i
  | _ => ⟨S64x3x2048, .f32⟩

abbrev bufTy : (tb : Table) → Fin (tcTables nBuf tb) → BufTy
  | .hbm, ⟨i, _⟩ => hbmTy i
  | _, _ => ⟨S64x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v0 : Ref sig .tc := ⟨.hbm, 30, rfl⟩
abbrev main_v1 : Ref sig .tc := ⟨.hbm, 31, rfl⟩
abbrev main_cst_4 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_cst : Ref sig .tc := ⟨.hbm, 80, rfl⟩
abbrev main_call2_v14 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_cst_5 : Ref sig .tc := ⟨.hbm, 87, rfl⟩
abbrev main_cst_6 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v14 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_cst : Ref sig .tc := ⟨.hbm, 114, rfl⟩
abbrev main_call4_v14 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev main_v18 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_cst : Ref sig .tc := ⟨.hbm, 139, rfl⟩
abbrev main_call5_v14 : Ref sig .tc := ⟨.hbm, 140, rfl⟩
abbrev main_v19 : Ref sig .tc := ⟨.hbm, 141, rfl⟩
abbrev main_v20 : Ref sig .tc := ⟨.hbm, 142, rfl⟩
abbrev main_v21 : Ref sig .tc := ⟨.hbm, 143, rfl⟩
abbrev main_v22 : Ref sig .tc := ⟨.hbm, 144, rfl⟩
abbrev main_v23 : Ref sig .tc := ⟨.hbm, 145, rfl⟩
abbrev main_c : Ref sig .tc := ⟨.hbm, 146, rfl⟩
abbrev main_v24 : Ref sig .tc := ⟨.hbm, 147, rfl⟩
abbrev main_v25 : Ref sig .tc := ⟨.hbm, 148, rfl⟩
abbrev main_v26 : Ref sig .tc := ⟨.hbm, 149, rfl⟩
abbrev main_cst_7 : Ref sig .tc := ⟨.hbm, 150, rfl⟩
abbrev main_v27 : Ref sig .tc := ⟨.hbm, 151, rfl⟩
abbrev main_v28 : Ref sig .tc := ⟨.hbm, 152, rfl⟩
abbrev main_v29 : Ref sig .tc := ⟨.hbm, 153, rfl⟩
abbrev main_cst_8 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.Value
public import Idealize.ShloMosaic.Lib.Tactic

/-! What one grid point of the kernel leaves in its scratch and in its two output blocks, as plain functions of the
blocks it reads: the first point computes the coefficient rows of all images into the scratch, and every point reads its
own 32 rows of it. -/

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- The zero offset on two axes. -/
theorem zeros2 : (![0, 0] : Fin 2 → Nat) = fun _ => 0 := funext fun a => by fin_cases a <;> rfl

/-- The zero offset on three axes. -/
theorem zeros3 : (![0, 0, 0] : Fin 3 → Nat) = fun _ => 0 := funext fun a => by fin_cases a <;> rfl

/-- The 32 coefficient rows that point `i` reads out of the scratch `s`. -/
def rows (i : grid0.Coords) (s : Vec F S64x8 .f32) : Vec F S32x8 .f32 :=
  View.ld s (Rect.unit (s := S64x8) (k0_off1 i) S32x8.size (k0_off1_inb i))

/-- The block of the reconstruction, from coefficient rows `k`, data `d` and model output `o`. -/
def recon (k : Vec F S32x8 .f32) (d o : Vec F S3x32x2048 .f32) : Vec F S3x32x2048 .f32 := k0_pay4 k d o

/-- The block of the sample, from coefficient rows `k`, data `d`, model output `o` and noise `z`. -/
def sample (k : Vec F S32x8 .f32) (d o z : Vec F S3x32x2048 .f32) : Vec F S3x32x2048 .f32 :=
  k0_pay1 (k0_pay5 k d o) (k0_pay6 k z)

/-- A scratch that is stored whole reads back as what was stored. -/
theorem read_whole {sp : Space} (v : View sig .tc sp S64x8 .f32) (inb : ∀ a, (![0, 0] : Fin 2 → Nat) a + (![64, 8] : Fin 2 → Nat) a ≤ S64x8.size a)
    (p : Vec F S64x8 .f32) :
    View.read (Elt F) v (v.writes (Elt F) v.junk [⟨Rect.unit (s := S64x8) ![0, 0] ![64, 8] inb, p⟩]) = p := by
  rw [View.read_writes_eq_canon _ _ _ (View.cover_of_tiledL _ S64x8.size (by sl_kernel_rfl))]
  exact View.canon_unit_zero (S := S64x8) zeros2 _ _

section

variable (c : Dev nD) (i : grid0.Coords) (a1 : Memref sig .tc .vmem S1x64 .i32) (h1 : a1.IsWhole)
  (a2 : Memref sig .tc .vmem S1000x8 .f32) (h2 : a2.IsWhole) (a3 : Memref sig .tc .vmem S3x32x2048 .f32) (h3 : a3.IsWhole)
  (a4 : Memref sig .tc .vmem S3x32x2048 .f32) (h4 : a4.IsWhole) (a5 : Memref sig .tc .vmem S3x32x2048 .f32) (h5 : a5.IsWhole)
  (a6 : Memref sig .tc .vmem S3x32x2048 .f32) (h6 : a6.IsWhole) (a7 : Memref sig .tc .vmem S3x32x2048 .f32) (h7 : a7.IsWhole)
  (a8 : Memref sig .tc .vmem S64x8 .f32) (h8 : a8.IsWhole)
  (x0 : Vec F S1x64 .i32) (x1 : Vec F S1000x8 .f32) (x2 x3 x4 : Vec F S3x32x2048 .f32) (s : Vec F S64x8 .f32)

/-- The first point leaves the coefficient rows of all images in the scratch. -/
theorem scratch_first (hc : cond0_0 i) :
    sout0_A_0 c i a1 h1 a2 h2 a3 h3 a4 h4 a5 h5 a6 h6 a7 h7 a8 h8 hc x0 x1 x2 x3 x4 = k0_pay2 x0 x1 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  rw [View.canon_unit_zero (S := S64x8) zeros2]
  simp only [View.readAt_eq_ld, h1.read_unread, h2.read_unread, View.ld_unit_zero (S := S1x64) zeros2, View.ld_unit_zero (S := S1000x8) zeros2]

/-- The first point leaves the reconstruction of its block, over the rows it has just computed. -/
theorem recon_first (hc : cond0_0 i) :
    out0_A_6 c i a1 h1 a2 h2 a3 h3 a4 h4 a5 h5 a6 h6 a7 h7 a8 h8 hc x0 x1 x2 x3 x4 = recon (rows i (k0_pay2 x0 x1)) x2 x3 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero (S := S3x32x2048) zeros3]
  simp only [View.readAt_eq_ld, h1.read_unread, h2.read_unread, h3.read_unread, h4.read_unread, View.ld_unit_zero (S := S3x32x2048) zeros3, View.ld_unit_zero (S := S1x64) zeros2, View.ld_unit_zero (S := S1000x8) zeros2, read_whole]
  rfl

/-- The first point leaves the sample of its block, over the rows it has just computed. -/
theorem sample_first (hc : cond0_0 i) :
    out0_A_5 c i a1 h1 a2 h2 a3 h3 a4 h4 a5 h5 a6 h6 a7 h7 a8 h8 hc x0 x1 x2 x3 x4 = sample (rows i (k0_pay2 x0 x1)) x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S3x32x2048) zeros3]
  simp only [View.readAt_eq_ld, h1.read_unread, h2.read_unread, h5.read_unread, h3.read_unread, h4.read_unread, View.ld_unit_zero (S := S3x32x2048) zeros3, View.ld_unit_zero (S := S1x64) zeros2, View.ld_unit_zero (S := S1000x8) zeros2, read_whole]
  rfl

/-- A later point leaves the reconstruction of its block, over the rows the scratch `s` holds. -/
theorem recon_next (hc : ¬cond0_0 i) :
    out0_B_6 c i a1 h1 a2 h2 a3 h3 a4 h4 a5 h5 a6 h6 a7 h7 a8 h8 hc x0 x1 x2 x3 x4 s = recon (rows i s) x2 x3 := by
  unfold out0_B_6
  rw [View.read_writes_eq_canon _ _ _ (cover0_B_6 c i a1 h1 a2 h2 a3 h3 a4 h4 a5 h5 a6 h6 a7 h7 a8 h8 hc x0 x1 x2 x3 x4 s)]
  unfold kernelRun0_B
  dsimp only
  sl_unfold_words
  rw [View.canon_unit_zero (S := S3x32x2048) zeros3]
  simp only [View.readAt_eq_ld, h8.read_unread, h3.read_unread, h4.read_unread, View.ld_unit_zero (S := S3x32x2048) zeros3]
  rfl

/-- A later point leaves the sample of its block, over the rows the scratch `s` holds. -/
theorem sample_next (hc : ¬cond0_0 i) :
    out0_B_5 c i a1 h1 a2 h2 a3 h3 a4 h4 a5 h5 a6 h6 a7 h7 a8 h8 hc x0 x1 x2 x3 x4 s = sample (rows i s) x2 x3 x4 := by
  unfold out0_B_5
  rw [View.read_writes_eq_canon _ _ _ (cover0_B_5 c i a1 h1 a2 h2 a3 h3 a4 h4 a5 h5 a6 h6 a7 h7 a8 h8 hc x0 x1 x2 x3 x4 s)]
  unfold kernelRun0_B
  dsimp only
  sl_unfold_words
  rw [View.canon_unit_zero (S := S3x32x2048) zeros3]
  simp only [View.readAt_eq_ld, h8.read_unread, h5.read_unread, h3.read_unread, h4.read_unread, View.ld_unit_zero (S := S3x32x2048) zeros3]
  rfl

end

end Cert.KernelIdeal.Block
-- ==== Proof.Payload.lean ====
module

public import proofs.«01_k».proof.Proof.Block
public import Idealize.ShloMosaic.Lib.Pointwise

/-! The kernel's block functions read at one element, over the extended reals. -/

@[expose] public section

set_option maxRecDepth 16384

noncomputable section

namespace Cert.KernelIdeal.Payload

open Cert.KernelIdeal Cert.KernelIdeal.Gen Cert.KernelIdeal.Block Idealize.ShloMosaic Idealize.ShloMosaic.TcCoe Idealize.SL.Sem

/-- One element of the reconstruction: `sr * d - sm * o`, clipped between the two printed bounds. -/
def reconAt (sr sm d o : EReal) : EReal :=
  min (max (sr * d - sm * o) (Ideal.ofBits .f32 0xBF000000#32)) (Ideal.ofBits .f32 0x3F000000#32)

/-- One element of the sample: the posterior mean, from the clipped reconstruction, plus the scaled noise. -/
def sampleAt (sr sm c1 c2 sg d o z : EReal) : EReal := (c1 * reconAt sr sm d o + c2 * d) + sg * z

/-- The reconstruction block at an element, its coefficients those of the element's image. -/
theorem recon_apply (k : Vec Ideal S32x8 .f32) (d o : Vec Ideal S3x32x2048 .f32) (a : Fin 3) (b : Fin 32) (l : Fin 2048) :
    recon k d o (ix3 a b l) = reconAt (k (ix2 b 0)) (k (ix2 b 1)) (d (ix3 a b l)) (o (ix3 a b l)) := by
  pointwise [recon, k0_pay4, k0_pay3, reconAt]

/-- The sample block at an element, its coefficients those of the element's image. -/
theorem sample_apply (k : Vec Ideal S32x8 .f32) (d o z : Vec Ideal S3x32x2048 .f32) (a : Fin 3) (b : Fin 32) (l : Fin 2048) :
    sample k d o z (ix3 a b l) = sampleAt (k (ix2 b 0)) (k (ix2 b 1)) (k (ix2 b 2)) (k (ix2 b 3)) (k (ix2 b 4))
      (d (ix3 a b l)) (o (ix3 a b l)) (z (ix3 a b l)) := by
  pointwise [sample, k0_pay1, k0_pay5, k0_pay6, k0_pay4, k0_pay3, sampleAt, reconAt]

/-- The one-hot product picks the table row that the step number names. -/
theorem coef_apply (x0 : Vec Ideal S1x64 .i32) (x1 : Vec Ideal S1000x8 .f32) (b : Fin 64) (q : Fin 8)
    (r : Fin 1000) (hr : x0 (ix2 0 b) = BitVec.ofNat 32 r.val) :
    k0_pay2 x0 x1 (ix2 b q) = x1 (ix2 r q) := by
  pointwise [k0_pay2]
  have hit : ∀ x : Fin 1000, (FloatOps.sitofp FTy.f32 (BitVec.setWidth 32 (IntOp.cmpi .eq (BitVec.ofNat 32 r.val) (BitVec.ofNat 32 x.val))) : Ideal .f32)
      = if x = r then (1 : EReal) else 0 := by
    intro x
    show (((BitVec.setWidth 32 (IntOp.cmpi .eq (BitVec.ofNat 32 r.val) (BitVec.ofNat 32 x.val))).toInt : ℝ) : EReal) = _
    by_cases h : x = r
    · subst h
      simp [IntOp.cmpi]
    · have hne : ¬ BitVec.ofNat 32 r.val = BitVec.ofNat 32 x.val := fun e => h (Fin.ext (by
        have := congrArg BitVec.toNat e
        have h1 := r.isLt
        have h2 := x.isLt
        simp only [BitVec.toNat_ofNat] at this
        omega))
      simp [IntOp.cmpi, h, beq_eq_false_iff_ne.mpr hne]
  rw [hr]
  simp only [hit, ite_mul, one_mul, zero_mul, Finset.sum_ite_eq', Finset.mem_univ, if_true]

/-- Row `b` of the rows that point `i` reads is row `32 * i + b` of the scratch. -/
theorem rows_apply (i : grid0.Coords) (s : Vec Ideal S64x8 .f32) (b : Fin 32) (q : Fin 8) (b' : Fin 64)
    (hb : b'.val = 32 * (i 0).val + b.val) : rows i s (ix2 b q) = s (ix2 b' q) := by
  unfold rows
  show s _ = s _
  congr 1
  funext a
  apply Fin.ext
  show k0_off1 i a + 1 * (ix2 b q a).val = _
  rw [congrFun (k0_off1_eq i) a]
  match a with
  | ⟨0, _⟩ => show 32 * (i 0).val + 1 * b.val = b'.val; omega
  | ⟨1, _⟩ => show 0 + 1 * q.val = q.val; omega

end Cert.KernelIdeal.Payload
-- ==== Proof.Arrays.lean ====
module

public import proofs.«01_k».proof.Proof.Payload

/-! The two arrays the pipelined kernel leaves, element by element, from the arrays it reads. -/

@[expose] public section

set_option maxRecDepth 16384

noncomputable section

namespace Cert.KernelIdeal.Arrays

open Cert.KernelIdeal Cert.KernelIdeal.Gen Cert.KernelIdeal.Block Cert.KernelIdeal.Payload Idealize.ShloMosaic Idealize.ShloMosaic.TcCoe Idealize.SL.Sem
open Idealize.ShloMosaic.Pipeline (Dat)

variable (m : (ℓ : Loc nD τ sig) → Buf (Elt Ideal) ℓ)

/-- The grid's first point. -/
def first : Fin cfg0.N := ⟨0, Nat.lt_of_lt_of_eq (by decide) (show cfg0.N = 2 from N_0).symm⟩

/-- A point that begins a sweep of the grid is its first. -/
theorem eq_first (t : Fin cfg0.N) (h : t.val % 2 = 0) : t = first := by
  have hN : cfg0.N = 2 := N_0
  have := t.isLt
  exact Fin.ext (by show t.val = 0; omega)

/-- The coefficient rows of all images, as the first point computes them. -/
def coefs (c : Dev nD) : Vec Ideal S64x8 .f32 := k0_pay2 (iblk m c 0 first) (iblk m c 1 first)

/-- After every point the scratch holds the coefficient rows of all images. -/
theorem scratch_eq (c : Dev nD) : ∀ (n : ℕ) (h : n < cfg0.N), (outsAt0 m c n h).2.2 = coefs m c
  | 0, h => by
    rw [outsAt0_A m c ⟨0, h⟩ rfl]
    dsimp only
    rw [scratch_first]
    rfl
  | n + 1, h => by
    have hN : cfg0.N = 2 := N_0
    have hB : ¬(⟨n + 1, h⟩ : Fin cfg0.N).val % 2 = 0 := by dsimp only; omega
    rw [outsAt0_B m c ⟨n + 1, h⟩ hB]
    dsimp only
    unfold sout0_B_0
    exact scratch_eq c n (Nat.lt_of_succ_lt h)

/-- What point `t` leaves in the reconstruction's block. -/
theorem recon_at (c : Dev nD) (t : Fin cfg0.N) :
    (outsAt0 m c t.val t.isLt).2.1 = recon (rows (grid0.coords t) (coefs m c)) (iblk m c 2 t) (iblk m c 3 t) := by
  by_cases h : t.val % 2 = 0
  · rw [outsAt0_A m c t h]
    dsimp only
    rw [recon_first]
    unfold coefs
    rw [eq_first t h]
  · rw [outsAt0_B m c t h]
    dsimp only
    rw [recon_next, scratch_eq]

/-- What point `t` leaves in the sample's block. -/
theorem sample_at (c : Dev nD) (t : Fin cfg0.N) :
    (outsAt0 m c t.val t.isLt).1 = sample (rows (grid0.coords t) (coefs m c)) (iblk m c 2 t) (iblk m c 3 t) (iblk m c 4 t) := by
  by_cases h : t.val % 2 = 0
  · rw [outsAt0_A m c t h]
    dsimp only
    rw [sample_first]
    unfold coefs
    rw [eq_first t h]
  · rw [outsAt0_B m c t h]
    dsimp only
    rw [sample_next, scratch_eq]

/-- The reconstruction's array, whole. -/
def reconArr (c : Dev nD) : Buf (Elt Ideal) ((c : Thread nD τ).loc main_v21_1) := fun j : S3x64x2048.Idx =>
  reconAt (coefs m c (ix2 (j 1) 0)) (coefs m c (ix2 (j 1) 1)) (V m c main_v0 j) (V m c main_v1 j)

/-- The sample's array, whole. -/
def sampleArr (c : Dev nD) : Buf (Elt Ideal) ((c : Thread nD τ).loc main_v21_0) := fun j : S3x64x2048.Idx =>
  sampleAt (coefs m c (ix2 (j 1) 0)) (coefs m c (ix2 (j 1) 1)) (coefs m c (ix2 (j 1) 2)) (coefs m c (ix2 (j 1) 3))
    (coefs m c (ix2 (j 1) 4)) (V m c main_v0 j) (V m c main_v1 j) (V m c main_v2 j)

/-- The blocks that point `t` stages start at image `32 * t`. -/
theorem index_facts : ∀ t : Fin cfg0.N, win0_2.index t = ![0, t.val, 0] ∧ win0_3.index t = ![0, t.val, 0]
    ∧ win0_4.index t = ![0, t.val, 0] ∧ win0_5.index t = ![0, t.val, 0] ∧ win0_6.index t = ![0, t.val, 0]
    ∧ (grid0.coords t 0).val = t.val :=
  (by decide +kernel : ∀ t : Fin grid0.N, win0_2.index t = ![0, t.val, 0] ∧ win0_3.index t = ![0, t.val, 0]
    ∧ win0_4.index t = ![0, t.val, 0] ∧ win0_5.index t = ![0, t.val, 0] ∧ win0_6.index t = ![0, t.val, 0]
    ∧ (grid0.coords t 0).val = t.val)

/-- Image `b` of block `t` is image `32 * t + b`. -/
def img (t : Fin cfg0.N) (b : Fin 32) : Fin 64 := ⟨32 * t.val + b.val, by have := t.isLt; have hN : cfg0.N = 2 := N_0; omega⟩

/-- Point `t`'s block of window 2's array, at an element. -/
theorem iblk2 (c : Dev nD) (t : Fin cfg0.N) (a : Fin 3) (b : Fin 32) (l : Fin 2048) :
    (iblk m c 2 t : Vec Ideal S3x32x2048 .f32) (ix3 a b l) = V m c main_v0 (ix3 a (img t b) l) := by
  unfold iblk
  rw [View.read_apply]
  show V m c main_v0 _ = V m c main_v0 _
  congr 1
  funext q
  apply Fin.ext
  have e := (index_facts t).1
  match q with
  | ⟨0, _⟩ => show win0_2.index t 0 * 3 + 1 * a.val = a.val; rw [e]; show 0 * 3 + 1 * a.val = a.val; omega
  | ⟨1, _⟩ => show win0_2.index t 1 * 32 + 1 * b.val = 32 * t.val + b.val; rw [e]; show t.val * 32 + 1 * b.val = _; omega
  | ⟨2, _⟩ => show win0_2.index t 2 * 2048 + 1 * l.val = l.val; rw [e]; show 0 * 2048 + 1 * l.val = l.val; omega

/-- Point `t`'s block of window 3's array, at an element. -/
theorem iblk3 (c : Dev nD) (t : Fin cfg0.N) (a : Fin 3) (b : Fin 32) (l : Fin 2048) :
    (iblk m c 3 t : Vec Ideal S3x32x2048 .f32) (ix3 a b l) = V m c main_v1 (ix3 a (img t b) l) := by
  unfold iblk
  rw [View.read_apply]
  show V m c main_v1 _ = V m c main_v1 _
  congr 1
  funext q
  apply Fin.ext
  have e := (index_facts t).2.1
  match q with
  | ⟨0, _⟩ => show win0_3.index t 0 * 3 + 1 * a.val = a.val; rw [e]; show 0 * 3 + 1 * a.val = a.val; omega
  | ⟨1, _⟩ => show win0_3.index t 1 * 32 + 1 * b.val = 32 * t.val + b.val; rw [e]; show t.val * 32 + 1 * b.val = _; omega
  | ⟨2, _⟩ => show win0_3.index t 2 * 2048 + 1 * l.val = l.val; rw [e]; show 0 * 2048 + 1 * l.val = l.val; omega

/-- Point `t`'s block of window 4's array, at an element. -/
theorem iblk4 (c : Dev nD) (t : Fin cfg0.N) (a : Fin 3) (b : Fin 32) (l : Fin 2048) :
    (iblk m c 4 t : Vec Ideal S3x32x2048 .f32) (ix3 a b l) = V m c main_v2 (ix3 a (img t b) l) := by
  unfold iblk
  rw [View.read_apply]
  show V m c main_v2 _ = V m c main_v2 _
  congr 1
  funext q
  apply Fin.ext
  have e := (index_facts t).2.2.1
  match q with
  | ⟨0, _⟩ => show win0_4.index t 0 * 3 + 1 * a.val = a.val; rw [e]; show 0 * 3 + 1 * a.val = a.val; omega
  | ⟨1, _⟩ => show win0_4.index t 1 * 32 + 1 * b.val = 32 * t.val + b.val; rw [e]; show t.val * 32 + 1 * b.val = _; omega
  | ⟨2, _⟩ => show win0_4.index t 2 * 2048 + 1 * l.val = l.val; rw [e]; show 0 * 2048 + 1 * l.val = l.val; omega

/-- Point `t`'s block of the reconstruction's array sits at the images of the block. -/
theorem recon_idx (t : Fin cfg0.N) (a : Fin 3) (b : Fin 32) (l : Fin 2048) :
    (((cfg0.win 6).blk t).view.emb (ix3 a b l) : S3x64x2048.Idx) = ix3 a (img t b) l := by
  funext q
  apply Fin.ext
  have e := (index_facts t).2.2.2.2.1
  match q with
  | ⟨0, _⟩ => show win0_6.index t 0 * 3 + 1 * a.val = a.val; rw [e]; show 0 * 3 + 1 * a.val = a.val; omega
  | ⟨1, _⟩ => show win0_6.index t 1 * 32 + 1 * b.val = 32 * t.val + b.val; rw [e]; show t.val * 32 + 1 * b.val = _; omega
  | ⟨2, _⟩ => show win0_6.index t 2 * 2048 + 1 * l.val = l.val; rw [e]; show 0 * 2048 + 1 * l.val = l.val; omega

/-- What point `t` writes back is its block of the reconstruction's array. -/
theorem recon_flushed (c : Dev nD) (t : Fin cfg0.N) :
    (dats m 0 c).flushed 6 t = ((cfg0.win 6).blk t).view.read (Elt Ideal) (reconArr m c) := by
  show (cfg0.win 6).cut (grid0.coords t) ((dats m 0 c).after 6 t) = _
  rw [after0_6, recon_at]
  funext j
  obtain ⟨a, b, l, rfl⟩ : ∃ (a : Fin 3) (b : Fin 32) (l : Fin 2048), j = ix3 a b l := ⟨j 0, j 1, j 2, eq_ix3 j⟩
  have hb : (img t b).val = 32 * (grid0.coords t 0).val + b.val := by rw [(index_facts t).2.2.2.2.2]; rfl
  rw [View.read_apply, recon_idx]
  show recon _ _ _ (ix3 a b l) = _
  rw [recon_apply, iblk2, iblk3, rows_apply _ _ b 0 (img t b) hb, rows_apply _ _ b 1 (img t b) hb]
  rfl

/-- Every element of the reconstruction's array is in the block of the point that owns its image. -/
theorem recon_cover (i : S3x64x2048.Idx) : ∃ t : Fin cfg0.N, (cfg0.win 6).flush t = true ∧ i ∈ ((cfg0.win 6).blk t).view.set := by
  have h0 : (i 0 : Nat) < 3 := (i 0).isLt
  have h1 : (i 1 : Nat) < 64 := (i 1).isLt
  have h2 : (i 2 : Nat) < 2048 := (i 2).isLt
  have hN : cfg0.N = 2 := N_0
  obtain ⟨t, ht⟩ : ∃ t : Fin cfg0.N, t.val = (i 1 : Nat) / 32 := ⟨⟨(i 1 : Nat) / 32, by omega⟩, rfl⟩
  refine ⟨t, flush0_6 t, ?_⟩
  show i ∈ ((View.whole main_v21_1).slice (win0_6.rect t)).set
  rw [View.set_slice_whole, Rect.mem_set_unit]
  have e := (index_facts t).2.2.2.2.1
  intro a
  match a with
  | ⟨0, _⟩ => show win0_6.index t 0 * 3 ≤ (i 0 : Nat) ∧ (i 0 : Nat) < win0_6.index t 0 * 3 + 3
              rw [e]; show 0 * 3 ≤ (i 0 : Nat) ∧ (i 0 : Nat) < 0 * 3 + 3; omega
  | ⟨1, _⟩ => show win0_6.index t 1 * 32 ≤ (i 1 : Nat) ∧ (i 1 : Nat) < win0_6.index t 1 * 32 + 32
              rw [e]; show t.val * 32 ≤ (i 1 : Nat) ∧ (i 1 : Nat) < t.val * 32 + 32; omega
  | ⟨2, _⟩ => show win0_6.index t 2 * 2048 ≤ (i 2 : Nat) ∧ (i 2 : Nat) < win0_6.index t 2 * 2048 + 2048
              rw [e]; show 0 * 2048 ≤ (i 2 : Nat) ∧ (i 2 : Nat) < 0 * 2048 + 2048; omega

/-- So the reconstruction's array ends at its closed form. -/
theorem recon_final (c : Dev nD) : (dats m 0 c).arrAt 6 cfg0.N = reconArr m c :=
  (dats m 0 c).arrAt_eq_of_cover 6 (reconArr m c) (fun t _ => recon_flushed m c t) recon_cover

/-- Point `t`'s block of the sample's array sits at the images of the block. -/
theorem sample_idx (t : Fin cfg0.N) (a : Fin 3) (b : Fin 32) (l : Fin 2048) :
    (((cfg0.win 5).blk t).view.emb (ix3 a b l) : S3x64x2048.Idx) = ix3 a (img t b) l := by
  funext q
  apply Fin.ext
  have e := (index_facts t).2.2.2.1
  match q with
  | ⟨0, _⟩ => show win0_5.index t 0 * 3 + 1 * a.val = a.val; rw [e]; show 0 * 3 + 1 * a.val = a.val; omega
  | ⟨1, _⟩ => show win0_5.index t 1 * 32 + 1 * b.val = 32 * t.val + b.val; rw [e]; show t.val * 32 + 1 * b.val = _; omega
  | ⟨2, _⟩ => show win0_5.index t 2 * 2048 + 1 * l.val = l.val; rw [e]; show 0 * 2048 + 1 * l.val = l.val; omega

/-- What point `t` writes back is its block of the sample's array. -/
theorem sample_flushed (c : Dev nD) (t : Fin cfg0.N) :
    (dats m 0 c).flushed 5 t = ((cfg0.win 5).blk t).view.read (Elt Ideal) (sampleArr m c) := by
  show (cfg0.win 5).cut (grid0.coords t) ((dats m 0 c).after 5 t) = _
  rw [after0_5, sample_at]
  funext j
  obtain ⟨a, b, l, rfl⟩ : ∃ (a : Fin 3) (b : Fin 32) (l : Fin 2048), j = ix3 a b l := ⟨j 0, j 1, j 2, eq_ix3 j⟩
  have hb : (img t b).val = 32 * (grid0.coords t 0).val + b.val := by rw [(index_facts t).2.2.2.2.2]; rfl
  rw [View.read_apply, sample_idx]
  show sample _ _ _ _ (ix3 a b l) = _
  rw [sample_apply, iblk2, iblk3, iblk4, rows_apply _ _ b 0 (img t b) hb, rows_apply _ _ b 1 (img t b) hb, rows_apply _ _ b 2 (img t b) hb, rows_apply _ _ b 3 (img t b) hb, rows_apply _ _ b 4 (img t b) hb]
  rfl

/-- Every element of the sample's array is in the block of the point that owns its image. -/
theorem sample_cover (i : S3x64x2048.Idx) : ∃ t : Fin cfg0.N, (cfg0.win 5).flush t = true ∧ i ∈ ((cfg0.win 5).blk t).view.set := by
  have h0 : (i 0 : Nat) < 3 := (i 0).isLt
  have h1 : (i 1 : Nat) < 64 := (i 1).isLt
  have h2 : (i 2 : Nat) < 2048 := (i 2).isLt
  have hN : cfg0.N = 2 := N_0
  obtain ⟨t, ht⟩ : ∃ t : Fin cfg0.N, t.val = (i 1 : Nat) / 32 := ⟨⟨(i 1 : Nat) / 32, by omega⟩, rfl⟩
  refine ⟨t, flush0_5 t, ?_⟩
  show i ∈ ((View.whole main_v21_0).slice (win0_5.rect t)).set
  rw [View.set_slice_whole, Rect.mem_set_unit]
  have e := (index_facts t).2.2.2.1
  intro a
  match a with
  | ⟨0, _⟩ => show win0_5.index t 0 * 3 ≤ (i 0 : Nat) ∧ (i 0 : Nat) < win0_5.index t 0 * 3 + 3
              rw [e]; show 0 * 3 ≤ (i 0 : Nat) ∧ (i 0 : Nat) < 0 * 3 + 3; omega
  | ⟨1, _⟩ => show win0_5.index t 1 * 32 ≤ (i 1 : Nat) ∧ (i 1 : Nat) < win0_5.index t 1 * 32 + 32
              rw [e]; show t.val * 32 ≤ (i 1 : Nat) ∧ (i 1 : Nat) < t.val * 32 + 32; omega
  | ⟨2, _⟩ => show win0_5.index t 2 * 2048 ≤ (i 2 : Nat) ∧ (i 2 : Nat) < win0_5.index t 2 * 2048 + 2048
              rw [e]; show 0 * 2048 ≤ (i 2 : Nat) ∧ (i 2 : Nat) < 0 * 2048 + 2048; omega

/-- So the sample's array ends at its closed form. -/
theorem sample_final (c : Dev nD) : (dats m 0 c).arrAt 5 cfg0.N = sampleArr m c :=
  (dats m 0 c).arrAt_eq_of_cover 5 (sampleArr m c) (fun t _ => sample_flushed m c t) sample_cover

/-- The step numbers' window is their whole array. -/
theorem iblk0 (c : Dev nD) (b : Fin 64) : (iblk m c 0 first : Vec Ideal S1x64 .i32) (ix2 0 b) = V m c main_v3 (ix2 0 b) := by
  unfold iblk
  rw [View.read_apply]
  show V m c main_v3 _ = V m c main_v3 _
  congr 1
  funext q
  apply Fin.ext
  match q with
  | ⟨0, _⟩ => rfl
  | ⟨1, _⟩ => show 0 * 64 + 1 * b.val = b.val; omega

/-- The coefficient table's window is the whole table. -/
theorem iblk1 (c : Dev nD) (r : Fin 1000) (q : Fin 8) : (iblk m c 1 first : Vec Ideal S1000x8 .f32) (ix2 r q) = V m c main_v20 (ix2 r q) := by
  unfold iblk
  rw [View.read_apply]
  show V m c main_v20 _ = V m c main_v20 _
  congr 1
  funext a
  apply Fin.ext
  match a with
  | ⟨0, _⟩ => show 0 * 1000 + 1 * r.val = r.val; omega
  | ⟨1, _⟩ => show 0 * 8 + 1 * q.val = q.val; omega

/-- The coefficients of an image whose step number is `r` are row `r` of the table. -/
theorem coefs_apply (c : Dev nD) (b : Fin 64) (q : Fin 8) (r : Fin 1000) (hr : V m c main_v3 (ix2 0 b) = BitVec.ofNat 32 r.val) :
    coefs m c (ix2 b q) = V m c main_v20 (ix2 r q) := by
  unfold coefs
  rw [coef_apply _ _ b q r ((iblk0 m c b).trans hr), iblk1]

end Cert.KernelIdeal.Arrays
-- ==== Proof.Host.lean ====
module

public import proofs.«01_k».proof.Proof.Arrays
public import Idealize.ShloMosaic.Lib.Pointwise
public import Idealize.ShloMosaic.Lib.StableHlo.Run

/-! What the host operations before the kernel's call leave in the arrays it takes, and what those after it make of its results. -/

@[expose] public section

set_option maxRecDepth 16384

noncomputable section

namespace Cert.KernelIdeal.Host

open Cert.KernelIdeal Cert.KernelIdeal.Gen Cert.KernelIdeal.Block Cert.KernelIdeal.Payload Cert.KernelIdeal.Arrays Idealize.ShloMosaic Idealize.ShloMosaic.TcCoe Idealize.SL.Sem

variable (m : (ℓ : Loc nD τ sig) → Buf (Elt Ideal) ℓ) (ρ : Dev nD → PrngReg)

/-- The printed log variances. -/
def logVar : Vec Ideal S1000 .f32 := fun i => Ideal.ofBits .f32 (lit0 (S1000.rowMajor i))
/-- The printed square roots of the reciprocals. -/
def recip : Vec Ideal S1000 .f32 := fun i => Ideal.ofBits .f32 (lit1 (S1000.rowMajor i))
/-- The printed square roots of the reciprocals less one. -/
def recipM1 : Vec Ideal S1000 .f32 := fun i => Ideal.ofBits .f32 (lit2 (S1000.rowMajor i))
/-- The printed first coefficients of the posterior mean. -/
def mean1 : Vec Ideal S1000 .f32 := fun i => Ideal.ofBits .f32 (lit3 (S1000.rowMajor i))
/-- The printed second coefficients of the posterior mean. -/
def mean2 : Vec Ideal S1000 .f32 := fun i => Ideal.ofBits .f32 (lit4 (S1000.rowMajor i))

/-- The noise column as the host computes it: the exponential of half the log variance, row 0 masked. -/
def noiseCol : Vec Ideal S1000 .f32 :=
  select (cmpi .eq (iotaInDim S1000 32 0) (broadcastInDim S1000 ![] bcast_S_S1000 (constantI S_ 32 0#32)))
    (broadcastInDim S1000 ![] bcast_S_S1000 (id (constant (F := Ideal) S_ .f32 0x00000000#32)))
    (Idealize.ShloMosaic.Host.exp (F := Ideal) (mulf (F := Ideal) (broadcastInDim S1000 ![] bcast_S_S1000 (constant (F := Ideal) S_ .f32 0x3F000000#32)) logVar))

/-- A column of the table. -/
def col (x : Vec Ideal S1000 .f32) : Vec Ideal S1000x1 .f32 := broadcastInDim S1000x1 ![0] bcast_S1000_S1000x1_0 x
/-- The column of zeros that pads the table. -/
def zeroCol : Vec Ideal S1000 .f32 := broadcastInDim S1000 ![] bcast_S_S1000 (constant (F := Ideal) S_ .f32 0x00000000#32)

/-- Eight columns side by side. -/
def beside (x0 x1 x2 x3 x4 x5 x6 x7 : Vec Ideal S1000x1 .f32) : Vec Ideal S1000x8 .f32 :=
  concatenate S1000x8 1 [⟨S1000x1, x0⟩, ⟨S1000x1, x1⟩, ⟨S1000x1, x2⟩, ⟨S1000x1, x3⟩, ⟨S1000x1, x4⟩, ⟨S1000x1, x5⟩, ⟨S1000x1, x6⟩, ⟨S1000x1, x7⟩]
    concatenates_S1000x1_S1000x1_S1000x1_S1000x1_S1000x1_S1000x1_S1000x1_S1000x1_S1000x8_d1

/-- The coefficient table as the host assembles it. -/
def table : Vec Ideal S1000x8 .f32 :=
  beside (col recip) (col recipM1) (col mean1) (col mean2) (col noiseCol) (col zeroCol) (col zeroCol) (col zeroCol)

/-- The host operations before the last one, which sets the columns side by side. -/
def before : List (HloOp τ sig (Elt Ideal)) := hostOps0 ++ (hostOps0_1 ++ hostOps0_2.dropLast)

/-- Two lines of operations run one after the other. -/
theorem after_two (xs ys : List (HloOp τ sig (Elt Ideal))) (W : Valuation τ sig (Elt Ideal)) :
    StableHlo.after (xs ++ ys) W = StableHlo.after ys (StableHlo.after xs W) := by
  induction xs generalizing W with
  | nil => rfl
  | cons x xs ih => exact ih _

/-- The kernel takes the eight columns side by side. -/
theorem table_beside (c : Dev nD) : V m c main_v20 = beside (StableHlo.after before (fun b => m (c, b)) (Proc.devRef .tc main_v12)) (StableHlo.after before (fun b => m (c, b)) (Proc.devRef .tc main_v13)) (StableHlo.after before (fun b => m (c, b)) (Proc.devRef .tc main_v14)) (StableHlo.after before (fun b => m (c, b)) (Proc.devRef .tc main_v15)) (StableHlo.after before (fun b => m (c, b)) (Proc.devRef .tc main_v16)) (StableHlo.after before (fun b => m (c, b)) (Proc.devRef .tc main_v17)) (StableHlo.after before (fun b => m (c, b)) (Proc.devRef .tc main_v18)) (StableHlo.after before (fun b => m (c, b)) (Proc.devRef .tc main_v19)) := by
  have h : List.flatten [hostOps0 (F := Ideal), hostOps0_1, hostOps0_2] = before ++ [hostOps0_2.getLast (by simp)] := by
    simp [before]
  show StableHlo.after _ _ _ = _
  rw [h, after_two]
  simp only [hostOps0_2, List.getLast_cons_cons, List.getLast_singleton]
  rw [StableHlo.after_cons, StableHlo.after_nil, StableHlo.nary_result]
  rfl

/-- Column 0. -/
theorem col0 (c : Dev nD) : StableHlo.after before (fun b => m (c, b)) (Proc.devRef .tc main_v12) = col recip := by
  simp only [before, hostOps0_2, List.dropLast, List.cons_append, List.nil_append]
  after_results
  rfl

/-- Column 1. -/
theorem col1 (c : Dev nD) : StableHlo.after before (fun b => m (c, b)) (Proc.devRef .tc main_v13) = col recipM1 := by
  simp only [before, hostOps0_2, List.dropLast, List.cons_append, List.nil_append]
  after_results
  rfl

/-- Column 2. -/
theorem col2 (c : Dev nD) : StableHlo.after before (fun b => m (c, b)) (Proc.devRef .tc main_v14) = col mean1 := by
  simp only [before, hostOps0_2, List.dropLast, List.cons_append, List.nil_append]
  after_results
  rfl

/-- Column 3. -/
theorem col3 (c : Dev nD) : StableHlo.after before (fun b => m (c, b)) (Proc.devRef .tc main_v15) = col mean2 := by
  simp only [before, hostOps0_2, List.dropLast, List.cons_append, List.nil_append]
  after_results
  rfl

/-- Column 4. -/
theorem col4 (c : Dev nD) : StableHlo.after before (fun b => m (c, b)) (Proc.devRef .tc main_v16) = col noiseCol := by
  simp only [before, hostOps0_2, List.dropLast, List.cons_append, List.nil_append]
  after_results
  rfl

/-- Column 5. -/
theorem col5 (c : Dev nD) : StableHlo.after before (fun b => m (c, b)) (Proc.devRef .tc main_v17) = col zeroCol := by
  simp only [before, hostOps0_2, List.dropLast, List.cons_append, List.nil_append]
  after_results
  rfl

/-- Column 6. -/
theorem col6 (c : Dev nD) : StableHlo.after before (fun b => m (c, b)) (Proc.devRef .tc main_v18) = col zeroCol := by
  simp only [before, hostOps0_2, List.dropLast, List.cons_append, List.nil_append]
  after_results
  rfl

/-- Column 7. -/
theorem col7 (c : Dev nD) : StableHlo.after before (fun b => m (c, b)) (Proc.devRef .tc main_v19) = col zeroCol := by
  simp only [before, hostOps0_2, List.dropLast, List.cons_append, List.nil_append]
  after_results
  rfl

/-- The kernel takes the assembled table. -/
theorem table_eq (c : Dev nD) : V m c main_v20 = table := by
  rw [table_beside, col0, col1, col2, col3, col4, col5, col6, col7]
  rfl

/-- The kernel takes the data with its first two axes exchanged. -/
theorem data_eq (c : Dev nD) : V m c main_v0 = transpose S3x64x2048 [1, 0, 2] (m ((c : Thread nD τ).loc main_arg0)) transposes_S64x3x2048_S3x64x2048_1_0_2 := by
  show StableHlo.after _ _ _ = _
  simp only [List.flatten_cons, List.flatten_nil, List.append_nil, List.cons_append, List.nil_append]
  after_results

/-- The kernel takes the model's output with its first two axes exchanged. -/
theorem out_eq (c : Dev nD) : V m c main_v1 = transpose S3x64x2048 [1, 0, 2] (m ((c : Thread nD τ).loc main_arg2)) transposes_S64x3x2048_S3x64x2048_1_0_2 := by
  show StableHlo.after _ _ _ = _
  simp only [List.flatten_cons, List.flatten_nil, List.append_nil, List.cons_append, List.nil_append]
  after_results

/-- The kernel takes the noise with its first two axes exchanged. -/
theorem noise_eq (c : Dev nD) : V m c main_v2 = transpose S3x64x2048 [1, 0, 2] (m ((c : Thread nD τ).loc main_arg3)) transposes_S64x3x2048_S3x64x2048_1_0_2 := by
  show StableHlo.after _ _ _ = _
  simp only [List.flatten_cons, List.flatten_nil, List.append_nil, List.cons_append, List.nil_append]
  after_results

/-- The kernel takes the step numbers as one row. -/
theorem steps_eq (c : Dev nD) : V m c main_v3 = broadcastInDim S1x64 ![1] bcast_S64_S1x64_1 (m ((c : Thread nD τ).loc main_arg1)) := by
  show StableHlo.after _ _ _ = _
  simp only [List.flatten_cons, List.flatten_nil, List.append_nil, List.cons_append, List.nil_append]
  after_results

end Cert.KernelIdeal.Host
-- ==== Proof.Result.lean ====
module

public import proofs.«01_k».proof.Proof.Host

/-! The kernel's two results, element by element. -/

@[expose] public section

set_option maxRecDepth 16384

noncomputable section

namespace Cert.KernelIdeal.Result

open Cert.KernelIdeal Cert.KernelIdeal.Gen Cert.KernelIdeal.Block Cert.KernelIdeal.Payload Cert.KernelIdeal.Arrays Cert.KernelIdeal.Host
open Idealize.ShloMosaic Idealize.ShloMosaic.TcCoe Idealize.SL.Sem

variable (m : (ℓ : Loc nD τ sig) → Buf (Elt Ideal) ℓ) (ρ : Dev nD → PrngReg)

/-- The scale of the noise at step `r`: nothing at step 0, otherwise the exponential of half the log variance. -/
def noiseAt (r : Fin 1000) : EReal :=
  if r.val = 0 then 0 else Ideal.exp (Ideal.ofBits .f32 0x3F000000#32 * logVar (ix1 r))

/-- The noise column at a row. -/
theorem noiseCol_apply (r : Fin 1000) : noiseCol (ix1 r) = noiseAt r := by
  have e : (BitVec.ofNat 32 r.val = 0#32) ↔ r.val = 0 := by
    have := r.isLt
    constructor
    · intro h
      have h2 := congrArg BitVec.toNat h
      rw [BitVec.toNat_ofNat, Nat.mod_eq_of_lt (by omega)] at h2
      exact h2
    · intro h
      rw [h]
  have z : (id (constant (F := Ideal) S_ .f32 0x00000000#32) : Vec Ideal S_ .f32) ix0 = 0 := by
    show Ideal.ofBits .f32 0x00000000#32 = 0
    pointwise []
  have k : (noiseCol (ix1 r) : EReal) = Scalar.select (IntOp.cmpi .eq (BitVec.ofNat 32 r.val) 0#32)
      ((id (constant (F := Ideal) S_ .f32 0x00000000#32) : Vec Ideal S_ .f32) ix0)
      (Ideal.exp (Ideal.ofBits .f32 0x3F000000#32 * logVar (ix1 r))) := by
    pointwise [noiseCol]
  rw [k, z]
  unfold noiseAt
  by_cases h : r.val = 0
  · rw [if_pos h, h]
    rfl
  · rw [if_neg h]
    have hb : (BitVec.ofNat 32 r.val == 0#32) = false := beq_eq_false_iff_ne.mpr fun q => h (e.mp q)
    simp [Scalar.select, IntOp.cmpi, hb]

/-- Column 0 of the table. -/
theorem table0 (r : Fin 1000) : table (ix2 r 0) = recip (ix1 r) := by pointwise [table, beside, col]
/-- Column 1 of the table. -/
theorem table1 (r : Fin 1000) : table (ix2 r 1) = recipM1 (ix1 r) := by pointwise [table, beside, col]
/-- Column 2 of the table. -/
theorem table2 (r : Fin 1000) : table (ix2 r 2) = mean1 (ix1 r) := by pointwise [table, beside, col]
/-- Column 3 of the table. -/
theorem table3 (r : Fin 1000) : table (ix2 r 3) = mean2 (ix1 r) := by pointwise [table, beside, col]
/-- Column 4 of the table. -/
theorem table4 (r : Fin 1000) : table (ix2 r 4) = noiseCol (ix1 r) := by pointwise [table, beside, col]

/-- The sample is the kernel's first array with its first two axes exchanged back. -/
theorem tail_sample (c : Dev nD) : Pipeline.afterTail₀ cfgs (dats m) 0 (V0 m) [hostOps1] c main_v22
    = transpose S64x3x2048 [1, 0, 2] (sampleArr m c) transposes_S3x64x2048_S64x3x2048_1_0_2 := by
  unfold Pipeline.afterTail₀
  simp only [List.flatten_cons, List.flatten_nil, List.append_nil]
  after_results
  have e := Pipeline.withArrays_arr spec0 (by decide) c (V0 m c) (fun w => (dats m 0 c).arrAt w cfg0.N) 5
  exact congrArg (transpose S64x3x2048 [1, 0, 2] · transposes_S3x64x2048_S64x3x2048_1_0_2) (e.trans (sample_final m c))

/-- The reconstruction is the kernel's second array with its first two axes exchanged back. -/
theorem tail_recon (c : Dev nD) : Pipeline.afterTail₀ cfgs (dats m) 0 (V0 m) [hostOps1] c main_v23
    = transpose S64x3x2048 [1, 0, 2] (reconArr m c) transposes_S3x64x2048_S64x3x2048_1_0_2 := by
  unfold Pipeline.afterTail₀
  simp only [List.flatten_cons, List.flatten_nil, List.append_nil]
  after_results
  have e := Pipeline.withArrays_arr spec0 (by decide) c (V0 m c) (fun w => (dats m 0 c).arrAt w cfg0.N) 6
  exact congrArg (transpose S64x3x2048 [1, 0, 2] · transposes_S3x64x2048_S64x3x2048_1_0_2) (e.trans (recon_final m c))

/-- The sample the kernel returns. -/
def sampleRes (c : Dev nD) : Buf (Elt Ideal) ((c : Thread nD τ).loc main_v22) :=
  transpose S64x3x2048 [1, 0, 2] (sampleArr m c) transposes_S3x64x2048_S64x3x2048_1_0_2
/-- The reconstruction the kernel returns. -/
def reconRes (c : Dev nD) : Buf (Elt Ideal) ((c : Thread nD τ).loc main_v23) :=
  transpose S64x3x2048 [1, 0, 2] (reconArr m c) transposes_S3x64x2048_S64x3x2048_1_0_2

/-- The kernel runs to the end, returns the two results and leaves its arguments alone. -/
theorem run : θ_run (defs (F := Ideal)) (onTc (τ := τ) (main (F := Ideal))) ⟨m, fun _ => 0, ρ⟩ (fun r => ∀ c : Dev nD,
      r.2.mem ((c.tc : Thread nD τ).loc main_v22) = sampleRes m c
      ∧ r.2.mem ((c.tc : Thread nD τ).loc main_v23) = reconRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v22 (Pipeline.mem_restRefs_of main_v22 (by decide) (by decide))).trans (tail_sample m c),
     ((h.1 c).2 main_v23 (Pipeline.mem_restRefs_of main_v23 (by decide) (by decide))).trans (tail_recon m c), h.2 c⟩)
    (θ_run_and (run_main m ρ) (unchanged m ρ))

/-- The step number of an image, as the kernel's windows see it. -/
theorem step_apply (c : Dev nD) (b : Fin 64) : V m c main_v3 (ix2 0 b) = m ((c : Thread nD τ).loc main_arg1) (ix1 b) := by
  rw [steps_eq]
  pointwise []

/-- One element of the reconstruction the kernel returns, where the image's step number is `r`. -/
theorem recon_elem (c : Dev nD) (b : Fin 64) (a : Fin 3) (l : Fin 2048) (r : Fin 1000)
    (hr : m ((c : Thread nD τ).loc main_arg1) (ix1 b) = BitVec.ofNat 32 r.val) :
    reconRes m c (ix3 b a l) = reconAt (recip (ix1 r)) (recipM1 (ix1 r))
      (m ((c : Thread nD τ).loc main_arg0) (ix3 b a l)) (m ((c : Thread nD τ).loc main_arg2) (ix3 b a l)) := by
  have h : V m c main_v3 (ix2 0 b) = BitVec.ofNat 32 r.val := (step_apply m c b).trans hr
  have e : reconRes m c (ix3 b a l) = reconArr m c (ix3 a b l) := by pointwise [reconRes]
  rw [e]
  show reconAt (coefs m c (ix2 b 0)) (coefs m c (ix2 b 1)) (V m c main_v0 (ix3 a b l)) (V m c main_v1 (ix3 a b l)) = _
  rw [coefs_apply m c b 0 r h, coefs_apply m c b 1 r h, table_eq, table0, table1, data_eq, out_eq]
  pointwise []

/-- One element of the sample the kernel returns, where the image's step number is `r`. -/
theorem sample_elem (c : Dev nD) (b : Fin 64) (a : Fin 3) (l : Fin 2048) (r : Fin 1000)
    (hr : m ((c : Thread nD τ).loc main_arg1) (ix1 b) = BitVec.ofNat 32 r.val) :
    sampleRes m c (ix3 b a l) = sampleAt (recip (ix1 r)) (recipM1 (ix1 r)) (mean1 (ix1 r)) (mean2 (ix1 r)) (noiseAt r)
      (m ((c : Thread nD τ).loc main_arg0) (ix3 b a l)) (m ((c : Thread nD τ).loc main_arg2) (ix3 b a l))
      (m ((c : Thread nD τ).loc main_arg3) (ix3 b a l)) := by
  have h : V m c main_v3 (ix2 0 b) = BitVec.ofNat 32 r.val := (step_apply m c b).trans hr
  have e : sampleRes m c (ix3 b a l) = sampleArr m c (ix3 a b l) := by pointwise [sampleRes]
  rw [e]
  show sampleAt (coefs m c (ix2 b 0)) (coefs m c (ix2 b 1)) (coefs m c (ix2 b 2)) (coefs m c (ix2 b 3)) (coefs m c (ix2 b 4))
    (V m c main_v0 (ix3 a b l)) (V m c main_v1 (ix3 a b l)) (V m c main_v2 (ix3 a b l)) = _
  rw [coefs_apply m c b 0 r h, coefs_apply m c b 1 r h, coefs_apply m c b 2 r h, coefs_apply m c b 3 r h, coefs_apply m c b 4 r h,
    table_eq, table0, table1, table2, table3, table4, noiseCol_apply, data_eq, out_eq, noise_eq]
  pointwise []

end Cert.KernelIdeal.Result
-- ==== Proof.Reference.lean ====
module

public import proofs.«01_k».proof.Proof.Gen.ReferenceIdeal.Run
public import Idealize.ShloMosaic.Lib.Pointwise
public import Idealize.ShloMosaic.Lib.ReduceAll
public import Idealize.ShloMosaic.Lib.Routing.OpsSet
public import Idealize.ShloMosaic.Lib.IdealHost

/-! The reference's two results, element by element, where every step number is a row of the tables. -/

@[expose] public section

set_option maxRecDepth 16384

noncomputable section

namespace Cert.ReferenceIdeal.Elem

open Cert.ReferenceIdeal Cert.ReferenceIdeal.Gen Cert.ReferenceIdeal.Value Idealize.ShloMosaic Idealize.ShloMosaic.TcCoe Idealize.SL.Sem

/-- The positions a take looks up: the step numbers as a column, a negative one counted from the end. -/
def places (t : IVec S64 32) : IVec S64x1 32 :=
  broadcastInDim S64x1 ![0] bcast_S64_S64x1_0 (select (cmpi .slt t (broadcastInDim S64 ![] bcast_S_S64 (constantI S_ 32 0#32))) (addi t (broadcastInDim S64 ![] bcast_S_S64 (constantI S_ 32 1000#32))) t)

/-- Which positions are in the table. -/
def inTable (t : IVec S64 32) : IVec S64x1 1 :=
  andi (cmpi .sge (places t) (broadcastInDim S64x1 ![] bcast_S_S64x1 (constantI S_ 32 0#32))) (cmpi .sle (places t) (broadcastInDim S64x1 ![0, 1] bcast_S1x1_S64x1_0_1 (broadcastInDim S1x1 ![1] bcast_S1_S1x1_1 (constantI S1 32 999#32))))

/-- One value per image, taken from a table at the image's step number. -/
def pick (x : FVec Ideal S1000 .f32) (t : IVec S64 32) : FVec Ideal S64 .f32 :=
  select (Host.reduce IntOp.andi (inTable t) (constantI S_ 1 1#1) reducesTo_S64x1_S64_d1 h_S_)
    (Host.gather gather_S1000_S64x1_S64_n_0_n_n_0_1_1 x (places t)) (broadcastInDim S64 ![] bcast_S_S64 (constant (F := Ideal) S_ .f32 0x7FC00000#32))

/-- One value per image, repeated over the image. -/
def spread (x : FVec Ideal S64 .f32) : FVec Ideal S64x3x2048 .f32 :=
  broadcastInDim S64x3x2048 ![0, 1, 2] bcast_S64x1x1_S64x3x2048_0_1_2 (shapeCast S64x1x1 x shapeCasts_S64_S64x1x1)

/-- The printed square roots of the reciprocals. -/
def tab0 : FVec Ideal S1000 .f32 := fun i => Ideal.ofBits .f32 (lit0 (S1000.rowMajor i))
/-- The printed square roots of the reciprocals less one. -/
def tab1 : FVec Ideal S1000 .f32 := fun i => Ideal.ofBits .f32 (lit1 (S1000.rowMajor i))
/-- The printed log variances. -/
def tab2 : FVec Ideal S1000 .f32 := fun i => Ideal.ofBits .f32 (lit2 (S1000.rowMajor i))
/-- The printed first coefficients of the posterior mean. -/
def tab3 : FVec Ideal S1000 .f32 := fun i => Ideal.ofBits .f32 (lit3 (S1000.rowMajor i))
/-- The printed second coefficients of the posterior mean. -/
def tab4 : FVec Ideal S1000 .f32 := fun i => Ideal.ofBits .f32 (lit4 (S1000.rowMajor i))

/-- The reconstruction as the reference computes it. -/
def xrec (d : FVec Ideal S64x3x2048 .f32) (t : IVec S64 32) (o : FVec Ideal S64x3x2048 .f32) : FVec Ideal S64x3x2048 .f32 :=
  minimumf (broadcastInDim S64x3x2048 ![] bcast_S_S64x3x2048 (id (constant (F := Ideal) S_ .f32 0x3F000000#32)))
    (maximumf (broadcastInDim S64x3x2048 ![] bcast_S_S64x3x2048 (id (constant (F := Ideal) S_ .f32 0xBF000000#32)))
      (subf (mulf (spread (pick tab0 t)) d) (mulf (spread (pick tab1 t)) o)))

/-- Nothing at step 0, one elsewhere. -/
def mask (t : IVec S64 32) : FVec Ideal S64 .f32 :=
  subf (broadcastInDim S64 ![] bcast_S_S64 (constant (F := Ideal) S_ .f32 0x3F800000#32)) (uitofp (F := Ideal) .f32 (cmpi .eq t (broadcastInDim S64 ![] bcast_S_S64 (constantI S_ 32 0#32))))

/-- The scale of the noise as the reference computes it. -/
def scale (t : IVec S64 32) : FVec Ideal S64x3x2048 .f32 :=
  mulf (spread (mask t)) (Host.exp (F := Ideal) (mulf (broadcastInDim S64x3x2048 ![] bcast_S_S64x3x2048 (constant (F := Ideal) S_ .f32 0x3F000000#32))
    (mulf (spread (pick tab2 t)) (broadcastInDim S64x3x2048 ![] bcast_S_S64x3x2048 (constant (F := Ideal) S_ .f32 0x3F800000#32)))))

/-- The sample as the reference computes it. -/
def samp (d : FVec Ideal S64x3x2048 .f32) (t : IVec S64 32) (o z : FVec Ideal S64x3x2048 .f32) : FVec Ideal S64x3x2048 .f32 :=
  addf (addf (mulf (spread (pick tab3 t)) (xrec d t o)) (mulf (spread (pick tab4 t)) d)) (mulf (scale t) z)

variable (m : (ℓ : Loc nD τ sig) → Buf (Elt Ideal) ℓ) (ρ : Dev nD → PrngReg)

/-- The reference runs to the end, returns the two results and leaves its arguments alone. -/
theorem run_elem : θ_run (defs (F := Ideal)) (onTc (τ := τ) (main (F := Ideal))) ⟨m, fun _ => 0, ρ⟩ (fun r => ∀ c : Dev nD,
      r.2.mem ((c.tc : Thread nD τ).loc main_v36) = samp (m ((c : Thread nD τ).loc main_arg0)) (m ((c : Thread nD τ).loc main_arg1)) (m ((c : Thread nD τ).loc main_arg2)) (m ((c : Thread nD τ).loc main_arg3))
      ∧ r.2.mem ((c.tc : Thread nD τ).loc main_v14) = xrec (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2.1, (h c).2.2⟩) (Cert.ReferenceIdeal.Value.run m ρ)

/-- A place is the row the step number names. -/
theorem places_apply (t : IVec S64 32) (b : Fin 64) (r : Fin 1000) (hr : t (ix1 b) = BitVec.ofNat 32 r.val) :
    places t (ix2 b 0) = BitVec.ofNat 32 r.val := by
  have e : places t (ix2 b 0) = Scalar.select (IntOp.cmpi .slt (t (ix1 b)) 0#32) (IntOp.addi (t (ix1 b)) 1000#32) (t (ix1 b)) := by
    pointwise [places]
  have k : ∀ r : Fin 1000, (BitVec.ofNat 32 r.val).slt 0#32 = false := by decide +kernel
  rw [e, hr]
  simp [Scalar.select, IntOp.cmpi, k]

/-- Every place is in the table. -/
theorem inTable_all (t : IVec S64 32) (ht : ∀ b, ∃ r : Fin 1000, t (ix1 b) = BitVec.ofNat 32 r.val) (i : S64x1.Idx) : inTable t i = 1#1 := by
  obtain ⟨b, u, rfl⟩ : ∃ (b : Fin 64) (u : Fin 1), i = ix2 b u := ⟨i 0, i 1, eq_ix2 i⟩
  obtain rfl : u = 0 := Subsingleton.elim _ _
  obtain ⟨r, hr⟩ := ht b
  have e : inTable t (ix2 b 0) = IntOp.andi (IntOp.cmpi .sge (places t (ix2 b 0)) 0#32) (IntOp.cmpi .sle (places t (ix2 b 0)) 999#32) := by
    pointwise [inTable]
  have k : ∀ r : Fin 1000, IntOp.andi (IntOp.cmpi .sge (BitVec.ofNat 32 r.val) 0#32) (IntOp.cmpi .sle (BitVec.ofNat 32 r.val) 999#32) = 1#1 := by
    decide +kernel
  rw [e, places_apply t b r hr, k]

/-- The value taken for an image is the table's at the image's row. -/
theorem pick_apply (x : FVec Ideal S1000 .f32) (t : IVec S64 32) (ht : ∀ b, ∃ r : Fin 1000, t (ix1 b) = BitVec.ofNat 32 r.val)
    (b : Fin 64) (r : Fin 1000) (hr : t (ix1 b) = BitVec.ofNat 32 r.val) : pick x t (ix1 b) = x (ix1 r) := by
  have e1 : Host.reduce IntOp.andi (inTable t) (constantI S_ 1 1#1) reducesTo_S64x1_S64_d1 h_S_ (ix1 b) = 1#1 :=
    Host.reduce_andi_one _ _ _ _ _ rfl (inTable_all t ht)
  have e2 : Host.gather gather_S1000_S64x1_S64_n_0_n_n_0_1_1 x (places t) (ix1 b) = x (ix1 r) :=
    Routing.gather_take1 gather_S1000_S64x1_S64_n_0_n_n_0_1_1 rfl rfl rfl rfl x (places t) b r (places_apply t b r hr) (by decide)
  show Scalar.select (Host.reduce IntOp.andi (inTable t) (constantI S_ 1 1#1) reducesTo_S64x1_S64_d1 h_S_ (ix1 b)) (Host.gather gather_S1000_S64x1_S64_n_0_n_n_0_1_1 x (places t) (ix1 b)) _ = _
  rw [e1, e2]
  rfl

/-- A value repeated over its image. -/
theorem spread_apply (x : FVec Ideal S64 .f32) (b : Fin 64) (a : Fin 3) (l : Fin 2048) : spread x (ix3 b a l) = x (ix1 b) := by
  pointwise [spread]

/-- The mask at an image: nothing at step 0, one elsewhere. -/
theorem mask_apply (t : IVec S64 32) (b : Fin 64) (r : Fin 1000) (hr : t (ix1 b) = BitVec.ofNat 32 r.val) :
    mask t (ix1 b) = if r.val = 0 then (0 : EReal) else 1 := by
  have e : (mask t (ix1 b) : EReal) = 1 - FloatOps.uitofp (F := Ideal) .f32 (IntOp.cmpi .eq (t (ix1 b)) 0#32) := by
    pointwise [mask]
  have k : (BitVec.ofNat 32 r.val == 0#32) = decide (r.val = 0) := (by decide +kernel : ∀ r : Fin 1000, (BitVec.ofNat 32 r.val == 0#32) = decide (r.val = 0)) r
  rw [e, hr]
  by_cases h : r.val = 0
  · have q : IntOp.cmpi .eq (BitVec.ofNat 32 r.val) 0#32 = 1#1 := by simp [IntOp.cmpi, k, h]
    rw [q, if_pos h]
    show (1 : EReal) - (((1#1 : BitVec 1).toNat : ℝ) : EReal) = 0
    simp only [BitVec.toNat_ofNat]
    norm_num
    rw [← EReal.coe_one, ← EReal.coe_sub, sub_self, EReal.coe_zero]
  · have q : IntOp.cmpi .eq (BitVec.ofNat 32 r.val) 0#32 = 0#1 := by simp [IntOp.cmpi, k, h]
    rw [q, if_neg h]
    show (1 : EReal) - (((0#1 : BitVec 1).toNat : ℝ) : EReal) = 1
    simp

/-- One element of the reference's reconstruction. -/
theorem xrec_apply (d : FVec Ideal S64x3x2048 .f32) (t : IVec S64 32) (o : FVec Ideal S64x3x2048 .f32)
    (ht : ∀ b, ∃ r : Fin 1000, t (ix1 b) = BitVec.ofNat 32 r.val) (b : Fin 64) (a : Fin 3) (l : Fin 2048) (r : Fin 1000)
    (hr : t (ix1 b) = BitVec.ofNat 32 r.val) :
    xrec d t o (ix3 b a l) = (min (max (tab0 (ix1 r) * d (ix3 b a l) - tab1 (ix1 r) * o (ix3 b a l)) (Ideal.ofBits .f32 0xBF000000#32)) (Ideal.ofBits .f32 0x3F000000#32) : EReal) := by
  pointwise [xrec, spread_apply, pick_apply _ t ht b r hr]
  rw [min_comm, max_comm]
  rfl

/-- One element of the scale of the noise. -/
theorem scale_apply (t : IVec S64 32)
    (ht : ∀ b, ∃ r : Fin 1000, t (ix1 b) = BitVec.ofNat 32 r.val) (b : Fin 64) (a : Fin 3) (l : Fin 2048) (r : Fin 1000)
    (hr : t (ix1 b) = BitVec.ofNat 32 r.val) :
    scale t (ix3 b a l) = if r.val = 0 then (0 : EReal) else Ideal.exp (Ideal.ofBits .f32 0x3F000000#32 * tab2 (ix1 r)) := by
  pointwise [scale, spread_apply, pick_apply _ t ht b r hr, mask_apply t b r hr]
  split
  · exact zero_mul _
  · exact one_mul _

/-- One element of the reference's sample. -/
theorem samp_apply (d : FVec Ideal S64x3x2048 .f32) (t : IVec S64 32) (o z : FVec Ideal S64x3x2048 .f32)
    (ht : ∀ b, ∃ r : Fin 1000, t (ix1 b) = BitVec.ofNat 32 r.val) (b : Fin 64) (a : Fin 3) (l : Fin 2048) (r : Fin 1000)
    (hr : t (ix1 b) = BitVec.ofNat 32 r.val) :
    samp d t o z (ix3 b a l) = ((tab3 (ix1 r) * xrec d t o (ix3 b a l) + tab4 (ix1 r) * d (ix3 b a l)) + scale t (ix3 b a l) * z (ix3 b a l) : EReal) := by
  pointwise [samp, spread_apply, pick_apply _ t ht b r hr]

end Cert.ReferenceIdeal.Elem
-- ==== Proof.Range.lean ====
module

public import proofs.«01_k».proof.Proof.Gen.Pre_t_in_range
public import Idealize.ShloMosaic.Lib.Pointwise
public import Idealize.ShloMosaic.Lib.ReduceAll

/-! The precondition read: every step number is a row of the tables. -/

@[expose] public section

set_option maxRecDepth 16384

noncomputable section

namespace Cert.Pre_t_in_range.Range

open Cert.Pre_t_in_range Idealize.ShloMosaic

/-- A word that is at least 0 and below 1000, both read signed, is the word of a row. -/
theorem word_row (w : BitVec 32) (h0 : (0#32).sle w = true) (h1 : w.slt 1000#32 = true) : ∃ r : Fin 1000, w = BitVec.ofNat 32 r.val := by
  have a0 : 0 ≤ w.toInt := by simpa [BitVec.sle] using h0
  have a1 : w.toInt < 1000 := by simpa [BitVec.slt] using h1
  have hw := w.isLt
  rw [BitVec.toInt_eq_toNat_cond] at a0 a1
  have hlt : w.toNat < 1000 := by
    split at a0 <;> omega
  refine ⟨⟨w.toNat, hlt⟩, ?_⟩
  apply BitVec.eq_of_toNat_eq
  rw [BitVec.toNat_ofNat, Nat.mod_eq_of_lt hw]

/-- Where the precondition holds, every step number is a row. -/
theorem rows_of_pre (x0 : FVec Ideal S64x3x2048 .f32) (t : IVec S64 32) (x2 x3 : FVec Ideal S64x3x2048 .f32)
    (h : ∀ j, fn (F := Ideal) x0 t x2 x3 j = 1#1) (b : Fin 64) : ∃ r : Fin 1000, t (ix1 b) = BitVec.ofNat 32 r.val := by
  have : Subsingleton S_.Idx := ⟨fun i j => funext fun a => a.elim0⟩
  have e := Host.reduce_andi_all _ _ _ _ ix0 (h ix0) (ix1 b)
  have e' : IntOp.andi (IntOp.cmpi .sge (t (ix1 b)) 0#32) (IntOp.cmpi .slt (t (ix1 b)) 1000#32) = 1#1 := e
  have k : (0#32).sle (t (ix1 b)) = true ∧ (t (ix1 b)).slt 1000#32 = true := by
    revert e'
    simp only [IntOp.andi, IntOp.cmpi]
    cases (0#32).sle (t (ix1 b)) <;> cases (t (ix1 b)).slt 1000#32 <;> simp
  exact word_row _ k.1 k.2

end Cert.Pre_t_in_range.Range
-- ==== Proof.Equal.lean ====
module

public import proofs.«01_k».proof.Proof.Result
public import proofs.«01_k».proof.Proof.Reference
public import proofs.«01_k».proof.Proof.Range

/-! The kernel's results are the reference's, on the same arguments. -/

@[expose] public section

set_option maxRecDepth 16384

noncomputable section

namespace Cert.Equal

open Cert.KernelIdeal.Payload Cert.KernelIdeal.Host Cert.KernelIdeal.Result Cert.ReferenceIdeal.Elem Idealize.ShloMosaic Idealize.ShloMosaic.TcCoe Idealize.SL.Sem

/-- Both programs print the same square roots of the reciprocals. -/
theorem recip_eq : recip = tab0 :=
  funext fun i => congrArg (Ideal.ofBits .f32) ((by decide +kernel : ∀ i, Cert.KernelIdeal.lit1 i = Cert.ReferenceIdeal.lit0 i) _)
/-- Both programs print the same square roots of the reciprocals less one. -/
theorem recipM1_eq : recipM1 = tab1 :=
  funext fun i => congrArg (Ideal.ofBits .f32) ((by decide +kernel : ∀ i, Cert.KernelIdeal.lit2 i = Cert.ReferenceIdeal.lit1 i) _)
/-- Both programs print the same log variances. -/
theorem logVar_eq : logVar = tab2 :=
  funext fun i => congrArg (Ideal.ofBits .f32) ((by decide +kernel : ∀ i, Cert.KernelIdeal.lit0 i = Cert.ReferenceIdeal.lit2 i) _)
/-- Both programs print the same first coefficients of the posterior mean. -/
theorem mean1_eq : mean1 = tab3 :=
  funext fun i => congrArg (Ideal.ofBits .f32) ((by decide +kernel : ∀ i, Cert.KernelIdeal.lit3 i = Cert.ReferenceIdeal.lit3 i) _)
/-- Both programs print the same second coefficients of the posterior mean. -/
theorem mean2_eq : mean2 = tab4 :=
  funext fun i => congrArg (Ideal.ofBits .f32) ((by decide +kernel : ∀ i, Cert.KernelIdeal.lit4 i = Cert.ReferenceIdeal.lit4 i) _)

variable (m : (ℓ : Loc Cert.KernelIdeal.nD Cert.KernelIdeal.τ Cert.KernelIdeal.sig) → Buf (Elt Ideal) ℓ)

/-- The reconstructions agree where every step number is a row. -/
theorem recon_eq (c : Dev Cert.KernelIdeal.nD)
    (ht : ∀ b, ∃ r : Fin 1000, (m ((c : Thread Cert.KernelIdeal.nD Cert.KernelIdeal.τ).loc Cert.KernelIdeal.main_arg1)) (ix1 b) = BitVec.ofNat 32 r.val) :
    reconRes m c = xrec (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)) := by
  funext j
  obtain ⟨b, a, l, rfl⟩ : ∃ (b : Fin 64) (a : Fin 3) (l : Fin 2048), j = ix3 b a l := ⟨j 0, j 1, j 2, eq_ix3 j⟩
  obtain ⟨r, hr⟩ := ht b
  rw [recon_elem m c b a l r hr, xrec_apply _ _ _ ht b a l r hr, recip_eq, recipM1_eq]
  rfl

/-- The samples agree where every step number is a row. -/
theorem sample_eq (c : Dev Cert.KernelIdeal.nD)
    (ht : ∀ b, ∃ r : Fin 1000, (m ((c : Thread Cert.KernelIdeal.nD Cert.KernelIdeal.τ).loc Cert.KernelIdeal.main_arg1)) (ix1 b) = BitVec.ofNat 32 r.val) :
    sampleRes m c = samp (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) := by
  funext j
  obtain ⟨b, a, l, rfl⟩ : ∃ (b : Fin 64) (a : Fin 3) (l : Fin 2048), j = ix3 b a l := ⟨j 0, j 1, j 2, eq_ix3 j⟩
  obtain ⟨r, hr⟩ := ht b
  rw [sample_elem m c b a l r hr, samp_apply _ _ _ _ ht b a l r hr, xrec_apply _ _ _ ht b a l r hr, scale_apply _ ht b a l r hr,
    recip_eq, recipM1_eq, mean1_eq, mean2_eq]
  unfold noiseAt
  rw [logVar_eq]
  rfl

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_t_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Gen.frame m ρ

/-- The frame of the kernel over the extended reals. -/
theorem frame_ideal : Cert.quiescent_KernelIdeal := fun m ρ _ => Cert.KernelIdeal.Gen.frame m ρ

/-- The same where the step numbers are in range. -/
theorem frame_ideal_pre : Cert.quiescent_KernelIdeal_pre_t_in_range := fun m ρ _ => Cert.KernelIdeal.Gen.frame m ρ

/-- The reference's frame; it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Elem.run_elem m ρ)

/-- The same where the step numbers are in range. -/
theorem frame_reference_pre : Cert.quiescent_ReferenceIdeal_pre_t_in_range := fun m ρ _ => frame_reference m ρ trivial

/-- Both results of the kernel are the reference's, where every step number is in range. -/
theorem values : Cert.algebraic_KernelIdeal_ReferenceIdeal_pre_t_in_range := by
  intro m ρ m' ρ' hpre hargs
  have ht := fun (c : Dev Cert.KernelIdeal.nD) => Cert.Pre_t_in_range.Range.rows_of_pre _ _ _ _ (fun j => congrFun (hpre c) j)
  refine ⟨Cert.KernelIdeal.Result.sampleRes m, Cert.KernelIdeal.Result.reconRes m, Cert.KernelIdeal.Result.run m ρ, ?_⟩
  refine (θ_run Cert.ReferenceIdeal.defs _ _).mono (fun r h c => ⟨(h c).1.trans ?_, (h c).2.1.trans ?_, (h c).2.2⟩)
    (Cert.ReferenceIdeal.Elem.run_elem m' ρ')
  · rw [Cert.Equal.sample_eq m c (ht c), ← (hargs c).1, ← (hargs c).2.1, ← (hargs c).2.2.1, ← (hargs c).2.2.2]
  · rw [Cert.Equal.recon_eq m c (ht c), ← (hargs c).1, ← (hargs c).2.1, ← (hargs c).2.2.1]

/-- Everything claimed. -/
theorem claim : Cert.Claim := ⟨Cert.Kernel.Gen.facts, Cert.KernelIdeal.Gen.facts, Cert.ReferenceIdeal.Gen.facts, Cert.Pre_t_in_range.Gen.facts,
  frame_kernel, frame_ideal, frame_ideal_pre, frame_reference, frame_reference_pre, trivial, values⟩

end Cert.Proof

end
